-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hReference : Cert.Reference.Facts) (hKernelIdeal : Cert.KernelIdeal.Facts) (hReferenceIdeal : Cert.ReferenceIdeal.Facts),
    quiescent_Kernel (hKernel := hKernel)
    ∧ quiescent_Reference (hReference := hReference)
    ∧ quiescent_KernelIdeal (hKernelIdeal := hKernelIdeal)
    ∧ quiescent_ReferenceIdeal (hReferenceIdeal := hReferenceIdeal)
    ∧ bitexact_Kernel_Reference (hKernel := hKernel) (hReference := hReference)
    ∧ preserves_Kernel_KernelIdeal
    ∧ algebraic_KernelIdeal_ReferenceIdeal (hKernelIdeal := hKernelIdeal) (hReferenceIdeal := hReferenceIdeal)
-- ==== Kernel.lean ====
abbrev S16384x26 : Shape := ⟨2, ![16384, 26]⟩
abbrev S50x64 : Shape := ⟨2, ![50, 64]⟩
abbrev S425984x64 : Shape := ⟨2, ![425984, 64]⟩
abbrev S8192x64 : Shape := ⟨2, ![8192, 64]⟩
abbrev S1x64 : Shape := ⟨2, ![1, 64]⟩
abbrev S16384x26x64 : Shape := ⟨3, ![16384, 26, 64]⟩

abbrev nBuf : Space → Nat
  | .hbm => 4
  | .vmem => 3
  | .smem => 0
  | _ => 0

abbrev bufTy : (tb : Table) → Fin (tcTables nBuf tb) → BufTy
  | .hbm, ⟨0, _⟩ => ⟨S16384x26, .i32⟩
  | .hbm, ⟨1, _⟩ => ⟨S50x64, .f32⟩
  | .hbm, ⟨2, _⟩ => ⟨S425984x64, .f32⟩
  | .hbm, ⟨3, _⟩ => ⟨S16384x26x64, .f32⟩
  | .local _ .vmem, ⟨0, _⟩ => ⟨S50x64, .f32⟩
  | .local _ .vmem, ⟨1, _⟩ => ⟨S8192x64, .f32⟩
  | .local _ .vmem, ⟨2, _⟩ => ⟨S8192x64, .f32⟩
  | _, _ => ⟨S16384x26, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S50x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S16384x26 : Shape := ⟨2, ![16384, 26]⟩
abbrev S50x64 : Shape := ⟨2, ![50, 64]⟩
abbrev S_ : Shape := ⟨0, ![]⟩
abbrev S16384x26x1 : Shape := ⟨3, ![16384, 26, 1]⟩
abbrev S1 : Shape := ⟨1, ![1]⟩
abbrev S1x1x1 : Shape := ⟨3, ![1, 1, 1]⟩
abbrev S16384x26x64 : Shape := ⟨3, ![16384, 26, 64]⟩

abbrev nBuf : Space → Nat
  | .hbm => 27
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S50x64, .f32⟩
  | .hbm, ⟨2, _⟩ => ⟨S_, .i32⟩
  | .hbm, ⟨3, _⟩ => ⟨S16384x26, .i32⟩
  | .hbm, ⟨4, _⟩ => ⟨S_, .i32⟩
  | .hbm, ⟨5, _⟩ => ⟨S16384x26, .i32⟩
  | .hbm, ⟨6, _⟩ => ⟨S16384x26, .i1⟩
  | .hbm, ⟨7, _⟩ => ⟨S_, .i32⟩
  | .hbm, ⟨8, _⟩ => ⟨S16384x26, .i32⟩
  | .hbm, ⟨9, _⟩ => ⟨S16384x26, .i32⟩
  | .hbm, ⟨10, _⟩ => ⟨S16384x26, .i32⟩
  | .hbm, ⟨11, _⟩ => ⟨S16384x26x1, .i32⟩
  | .hbm, ⟨12, _⟩ => ⟨S1, .i32⟩
  | .hbm, ⟨13, _⟩ => ⟨S_, .i32⟩
  | .hbm, ⟨14, _⟩ => ⟨S16384x26x1, .i32⟩
  | .hbm, ⟨15, _⟩ => ⟨S16384x26x1, .i1⟩
  | .hbm, ⟨16, _⟩ => ⟨S1x1x1, .i32⟩
  | .hbm, ⟨17, _⟩ => ⟨S16384x26x1, .i32⟩
  | .hbm, ⟨18, _⟩ => ⟨S16384x26x1, .i1⟩
  | .hbm, ⟨19, _⟩ => ⟨S16384x26x1, .i1⟩
  | .hbm, ⟨20, _⟩ => ⟨S_, .i1⟩
  | .hbm, ⟨21, _⟩ => ⟨S16384x26, .i1⟩
  | .hbm, ⟨22, _⟩ => ⟨S16384x26x64, .f32⟩
  | .hbm, ⟨23, _⟩ => ⟨S16384x26x64, .i1⟩
  | .hbm, ⟨24, _⟩ => ⟨S_, .f32⟩
  | .hbm, ⟨25, _⟩ => ⟨S16384x26x64, .f32⟩
  | .hbm, ⟨26, _⟩ => ⟨S16384x26x64, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩

abbrev nD : Nat := 1
abbrev τ : Topo := Topo.v7x

variable {F : FTy → Type} [FloatOps F]
-- ==== Proof.Rows.lean ====
/- Row 0 of a table at every position of a result: what the kernel and the reference both compute, as a function of the
   table alone, and the facts about pure array operations that bring either program's result to it.  Nothing here
   mentions a program; every statement holds of any element type. -/
module

public import Idealize.ShloMosaic.Lib.ValueIdxCore
public import Idealize.ShloMosaic.Lib.ReduceAll
public import Idealize.ShloMosaic.Lib.Pipeline.Value

@[expose] public section

noncomputable section

namespace Cert.Rows

open Idealize.ShloMosaic Idealize.ShloMosaic.ValueIdx

variable {α : Type} {N C : Nat}

/-- Row 0 of the table `E` at every row of an `[R, C]` array. -/
def flat (hN : 0 < N) (R : Nat) (E : (⟨2, ![N, C]⟩ : Shape).Idx → α) : (⟨2, ![R, C]⟩ : Shape).Idx → α :=
  fun i => E (ix2 ⟨0, hN⟩ (i 1))

/-- Row 0 of the table `E` at every pair of leading coordinates of an `[A, B, C]` array. -/
def stacked (hN : 0 < N) (A B : Nat) (E : (⟨2, ![N, C]⟩ : Shape).Idx → α) : (⟨3, ![A, B, C]⟩ : Shape).Idx → α :=
  fun i => E (ix2 ⟨0, hN⟩ (i 2))

/-- The first row of a block, loaded as `[1, C]` and broadcast to `[R, C]`, is row 0 at every row. -/
theorem broadcast_row_zero (hN : 0 < N) (R : Nat) (x : (⟨2, ![N, C]⟩ : Shape).Idx → α)
    (hs : (⟨2, ![N, C]⟩ : Shape).Slices ![0, 0] ⟨2, ![1, C]⟩)
    (hc : (⟨2, ![1, C]⟩ : Shape).ShapeCasts ⟨2, ![1, C]⟩) (hb : (⟨2, ![1, C]⟩ : Shape).Broadcasts ⟨2, ![R, C]⟩) :
    broadcastTo ⟨2, ![R, C]⟩ (shapeCast ⟨2, ![1, C]⟩
        (extractStridedSlice ⟨2, ![1, C]⟩ ![0, 0] x hs) hc) hb
      = flat hN R x := by
  funext i
  rw [shapeCast_self]
  refine (broadcastTo_apply _ hb i (ix2 ⟨0, Nat.one_pos⟩ (i 1)) fun a => ?_).trans ?_
  · match a with
    | ⟨0, _⟩ => rfl
    | ⟨1, _⟩ =>
      show (i 1).val = if C = 1 then 0 else (i 1).val
      have h : (i 1).val < C := (i 1).isLt
      split <;> omega
  · refine congrArg x (funext fun a => Fin.ext ?_)
    match a with
    | ⟨0, _⟩ => rfl
    | ⟨1, _⟩ => exact Nat.zero_add _

/-- Splitting the leading axis of the flat array gives the stacked one: the last coordinate of a position, the only one
    either array reads, is the remainder of its row-major number by `C` on both sides. -/
theorem shapeCast_flat (hN : 0 < N) (R A B : Nat) (E : (⟨2, ![N, C]⟩ : Shape).Idx → α) (hR : R = A * B)
    (h : (⟨2, ![R, C]⟩ : Shape).ShapeCasts ⟨3, ![A, B, C]⟩) :
    shapeCast ⟨3, ![A, B, C]⟩ (flat hN R E) h = stacked hN A B E := by
  funext j
  have h0 : (j 0).val < A := (j 0).isLt
  have h1 : (j 1).val < B := (j 1).isLt
  have hk : (j 0).val * B + (j 1).val < R := by
    subst hR
    calc (j 0).val * B + (j 1).val < (j 0).val * B + B := by omega
      _ = ((j 0).val + 1) * B := (Nat.succ_mul _ _).symm
      _ ≤ A * B := Nat.mul_le_mul_right _ h0
  refine (shapeCast_apply _ h j (ix2 ⟨(j 0).val * B + (j 1).val, hk⟩ (j 2)) ?_).trans rfl
  rw [Shape.rowMajor_val_two, Shape.rowMajor_val_three]
  rfl

/-- Rows of a table gathered at start indices that are all zero, one index per pair of leading coordinates: row 0
    everywhere. -/
theorem gather_zero (hN : 0 < N) {A B : Nat} (d : GatherDims ⟨2, ![N, C]⟩ ⟨3, ![A, B, 1]⟩ ⟨3, ![A, B, C]⟩)
    (hoff : d.offsetDims = [2]) (hcoll : d.collapsedSliceDims = [0]) (hob : d.operandBatchingDims = [])
    (hsim : d.startIndexMap = [0]) (E : (⟨2, ![N, C]⟩ : Shape).Idx → α) (idx : IVec ⟨3, ![A, B, 1]⟩ 32)
    (hidx : ∀ k, idx k = 0#32) :
    Host.gather d E idx = stacked hN A B E := by
  funext j
  unfold Host.gather stacked
  refine congrArg E (funext fun a => Fin.ext ?_)
  have hb : ∀ a, a ∉ d.operandBatchingDims := fun a => by rw [hob]; exact List.not_mem_nil
  have hlast : ∀ k ∈ d.offsetDims, (j k).val = (j 2).val := fun k hk => by
    rw [hoff] at hk
    rw [List.mem_singleton.mp hk]
  match a with
  | ⟨0, _⟩ =>
    show d.start j idx 0 + d.batchCoord j 0 + d.offCoord j 0 = 0
    have hs : d.start j idx 0 = 0 := by
      unfold GatherDims.start
      split
      · rw [hidx]; exact Nat.zero_min _
      · rfl
    rw [hs, d.batchCoord_eq_zero _ _ (hb 0), d.offCoord_eq_zero _ _ fun h =>
      ((d.mem_sKept 0).mp h).1 (by rw [hcoll]; exact List.mem_singleton.mpr rfl)]
  | ⟨1, _⟩ =>
    have h10 : (1 : Fin 2) ∉ ([0] : List (Fin 2)) := by decide
    have hk : (1 : Fin 2) ∈ d.sKept := (d.mem_sKept 1).mpr ⟨by rw [hcoll]; exact h10, hb 1⟩
    show d.start j idx 1 + d.batchCoord j 1 + d.offCoord j 1 = (j 2).val
    rw [d.batchCoord_eq_zero _ _ (hb 1)]
    unfold GatherDims.start GatherDims.offCoord
    rw [dif_neg (by rw [hsim]; exact h10), dif_pos hk]
    simp only [Nat.zero_add]
    exact hlast _ (List.getElem_mem _)

/-- An array kept where a reduced and broadcast mask says so, all of whose bits are set, is the array: the fill value
    is never taken. -/
theorem select_all {s t u v : Shape} {axes : List (Fin s.rank)} (dims : Fin t.rank → Fin v.rank)
    (hd : t.BroadcastsInDim v dims) (p : s.Idx → BitVec 1) (init : u.Idx → BitVec 1) (h : s.ReducesTo axes t)
    (hu : 0 < u.numel) (hi : init (Shape.Idx.first hu) = 1#1) (hp : ∀ i, p i = 1#1) (x y : v.Idx → α) :
    select (broadcastInDim v dims hd (Host.reduce IntOp.andi p init h hu)) x y = x := by
  funext i
  rw [select_apply]
  have e : broadcastInDim v dims hd (Host.reduce IntOp.andi p init h hu) i = 1#1 :=
    Host.reduce_andi_one p init h hu _ hi hp
  rw [e, select_one]

end Cert.Rows

end
-- ==== Proof.KernelValue.lean ====
/- What the kernel computes: the table's row 0 at every position of the result.  Each of the 52 grid points writes it to
   the 8192 rows of its block; the blocks tile the flat array, and the reshape after the launch splits that array's rows. -/
module

public import proofs.«01_k».proof.Proof.Gen.Kernel.Frame
public import proofs.«01_k».proof.Proof.Gen.KernelIdeal.Frame
public import proofs.«01_k».proof.Proof.Rows
public import Idealize.ShloMosaic.Lib.StableHlo.Run

@[expose] public section

noncomputable section

open Idealize.ShloMosaic Idealize.ShloMosaic.TcCoe Idealize.SL.Sem

/-! ## The kernel's own text -/

namespace Cert.Kernel.Rows

open Cert.Kernel Cert.Kernel.Gen

variable {F : FTy → Type} [FloatOps F]
variable (m : (ℓ : Loc nD τ sig) → Buf (Elt F) ℓ) (ρ : Dev nD → PrngReg)

/-- What the flat array of device `c` is shown to hold: row 0 of its table at every row. -/
abbrev rows (c : Dev nD) : Buf (Elt F) ((c : Thread nD τ).loc main_v0) :=
  Cert.Rows.flat (N := 50) (C := 64) (by decide) 425984 (m ((c : Thread nD τ).loc main_arg1))

/-- What the body leaves in the output block: row 0 of its table block at every row. -/
theorem out_eq (x : Vec F S50x64 .f32) : out0_1 x = Cert.Rows.flat (by decide) 8192 x := by
  unfold out0_1
  rw [View.canon_unit_zero (funext fun a => by fin_cases a <;> rfl), View.ld_unit]
  unfold k0_pay1
  exact Cert.Rows.broadcast_row_zero (by decide) 8192 x _ _ _

/-- What grid point `t` writes back is its block of `rows`: the table's block is the whole table at every point, and an
    output block starts at column 0. -/
theorem flushed_eq (c : Dev nD) (t : Fin cfg0.N) :
    (dats m 0 c).flushed 1 t = (win0_1.blk t).view.read (Elt F) (rows m c) := by
  show (cfg0.win 1).cut (grid0.coords t) ((dats m 0 c).after 1 t) = _
  rw [after0_1, out_eq]
  funext y
  refine congrArg (m ((c : Thread nD τ).loc main_arg1)) (funext fun a => Fin.ext ?_)
  match a with
  | ⟨0, _⟩ => exact win0_0.rect_emb_val_of_index_zero t 0 rfl _
  | ⟨1, _⟩ =>
    exact (win0_0.rect_emb_val_of_index_zero t 1 rfl _).trans (win0_1.rect_emb_val_of_index_zero t 1 rfl y).symm

/-- Row `i` of the flat array lies in the block of grid point `i / 8192`: the 52 blocks of 8192 rows tile it. -/
theorem cover (i : S425984x64.Idx) :
    ∃ t : Fin cfg0.N, (cfg0.win 1).flush t = true ∧ i ∈ ((cfg0.win 1).blk t).view.set := by
  have h0 : (i 0 : Nat) < 425984 := (i 0).isLt
  have h1 : (i 1 : Nat) < 64 := (i 1).isLt
  have hN : cfg0.N = 52 := N_0
  have ht : (i 0 : Nat) / 8192 < cfg0.N := by omega
  refine ⟨⟨(i 0 : Nat) / 8192, ht⟩, flush0_1 _, ?_⟩
  show i ∈ ((View.whole main_v0).slice (win0_1.rect ⟨(i 0 : Nat) / 8192, ht⟩)).set
  rw [View.set_slice_whole, Rect.mem_set_unit]
  have e : win0_1.index ⟨(i 0 : Nat) / 8192, ht⟩ 0 = (i 0 : Nat) / 8192 := by
    show (BitVec.ofNat 32 (grid0.coords ⟨(i 0 : Nat) / 8192, ht⟩ 0).val).toNat = _
    rw [BitVec.toNat_ofNat, grid0.coords_val ⟨(i 0 : Nat) / 8192, ht⟩ 0 (S := 1) (B := 52) rfl rfl]
    show (i 0 : Nat) / 8192 / 1 % 52 % 2 ^ 32 = (i 0 : Nat) / 8192
    omega
  intro a
  match a with
  | ⟨0, _⟩ =>
    show win0_1.index ⟨(i 0 : Nat) / 8192, ht⟩ 0 * 8192 ≤ (i 0 : Nat)
      ∧ (i 0 : Nat) < win0_1.index ⟨(i 0 : Nat) / 8192, ht⟩ 0 * 8192 + 8192
    rw [e]; omega
  | ⟨1, _⟩ =>
    show 0 * 64 ≤ (i 1 : Nat) ∧ (i 1 : Nat) < 0 * 64 + 64
    omega

/-- So the flat array ends holding row 0 of the table at every row. -/
theorem final (c : Dev nD) : (dats m 0 c).arrAt 1 cfg0.N = rows m c :=
  (dats m 0 c).arrAt_eq_of_cover 1 (rows m c) (fun t _ => flushed_eq m c t) cover

/-- The result, a reshape of the flat array, ends holding row 0 of the table at every pair of leading coordinates. -/
theorem result_eq (c : Dev nD) : Pipeline.afterTail₀ cfgs (dats m) 0 (V0 m) [hostOps1] c main_v1
      = Cert.Rows.stacked (N := 50) (C := 64) (by decide) 16384 26 (m ((c.tc : Thread nD τ).loc main_arg1)) := by
  unfold Pipeline.afterTail₀
  simp only [hostOps1, List.flatten_cons, List.flatten_nil, List.append_nil]
  rw [StableHlo.after_cons, StableHlo.after_nil, StableHlo.reshape_result,
    Pipeline.withArrays_arr spec0 (by decide) c (V0 m c) _ 1]
  refine (congrArg (fun E => shapeCast S16384x26x64 E shapeCasts_S425984x64_S16384x26x64) (final m c)).trans ?_
  exact Cert.Rows.shapeCast_flat (by decide) 425984 16384 26 _ (by decide) _

/-- The run of the kernel, read: the result is row 0 of the table at every position, the arguments are unchanged. -/
theorem run : θ_run defs (onTc (τ := τ) (main (F := F))) ⟨m, fun _ => 0, ρ⟩ fun r => ∀ c : Dev nD,
      r.2.mem ((c.tc : Thread nD τ).loc main_v1)
        = Cert.Rows.stacked (N := 50) (C := 64) (by decide) 16384 26 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v1 (Pipeline.mem_restRefs_of main_v1 (by decide) (by decide))).trans (result_eq m c),
        ((h c).2 main_arg0 (Pipeline.mem_restRefs_of main_arg0 (by decide) (by decide))).trans (W_main_arg0 m (dats m) c),
        ((h c).1 0).trans ((dats m 0 c).arrAt_in 0 rfl _)⟩)
    (run_main m ρ)

end Cert.Kernel.Rows

/-! ## The text that is read over the extended reals: the same facts -/

namespace Cert.KernelIdeal.Rows

open Cert.KernelIdeal Cert.KernelIdeal.Gen

variable {F : FTy → Type} [FloatOps F]
variable (m : (ℓ : Loc nD τ sig) → Buf (Elt F) ℓ) (ρ : Dev nD → PrngReg)

/-- What the flat array of device `c` is shown to hold: row 0 of its table at every row. -/
abbrev rows (c : Dev nD) : Buf (Elt F) ((c : Thread nD τ).loc main_v0) :=
  Cert.Rows.flat (N := 50) (C := 64) (by decide) 425984 (m ((c : Thread nD τ).loc main_arg1))

/-- What the body leaves in the output block: row 0 of its table block at every row. -/
theorem out_eq (x : Vec F S50x64 .f32) : out0_1 x = Cert.Rows.flat (by decide) 8192 x := by
  unfold out0_1
  rw [View.canon_unit_zero (funext fun a => by fin_cases a <;> rfl), View.ld_unit]
  unfold k0_pay1
  exact Cert.Rows.broadcast_row_zero (by decide) 8192 x _ _ _

/-- What grid point `t` writes back is its block of `rows`: the table's block is the whole table at every point, and an
    output block starts at column 0. -/
theorem flushed_eq (c : Dev nD) (t : Fin cfg0.N) :
    (dats m 0 c).flushed 1 t = (win0_1.blk t).view.read (Elt F) (rows m c) := by
  show (cfg0.win 1).cut (grid0.coords t) ((dats m 0 c).after 1 t) = _
  rw [after0_1, out_eq]
  funext y
  refine congrArg (m ((c : Thread nD τ).loc main_arg1)) (funext fun a => Fin.ext ?_)
  match a with
  | ⟨0, _⟩ => exact win0_0.rect_emb_val_of_index_zero t 0 rfl _
  | ⟨1, _⟩ =>
    exact (win0_0.rect_emb_val_of_index_zero t 1 rfl _).trans (win0_1.rect_emb_val_of_index_zero t 1 rfl y).symm

/-- Row `i` of the flat array lies in the block of grid point `i / 8192`: the 52 blocks of 8192 rows tile it. -/
theorem cover (i : S425984x64.Idx) :
    ∃ t : Fin cfg0.N, (cfg0.win 1).flush t = true ∧ i ∈ ((cfg0.win 1).blk t).view.set := by
  have h0 : (i 0 : Nat) < 425984 := (i 0).isLt
  have h1 : (i 1 : Nat) < 64 := (i 1).isLt
  have hN : cfg0.N = 52 := N_0
  have ht : (i 0 : Nat) / 8192 < cfg0.N := by omega
  refine ⟨⟨(i 0 : Nat) / 8192, ht⟩, flush0_1 _, ?_⟩
  show i ∈ ((View.whole main_v0).slice (win0_1.rect ⟨(i 0 : Nat) / 8192, ht⟩)).set
  rw [View.set_slice_whole, Rect.mem_set_unit]
  have e : win0_1.index ⟨(i 0 : Nat) / 8192, ht⟩ 0 = (i 0 : Nat) / 8192 := by
    show (BitVec.ofNat 32 (grid0.coords ⟨(i 0 : Nat) / 8192, ht⟩ 0).val).toNat = _
    rw [BitVec.toNat_ofNat, grid0.coords_val ⟨(i 0 : Nat) / 8192, ht⟩ 0 (S := 1) (B := 52) rfl rfl]
    show (i 0 : Nat) / 8192 / 1 % 52 % 2 ^ 32 = (i 0 : Nat) / 8192
    omega
  intro a
  match a with
  | ⟨0, _⟩ =>
    show win0_1.index ⟨(i 0 : Nat) / 8192, ht⟩ 0 * 8192 ≤ (i 0 : Nat)
      ∧ (i 0 : Nat) < win0_1.index ⟨(i 0 : Nat) / 8192, ht⟩ 0 * 8192 + 8192
    rw [e]; omega
  | ⟨1, _⟩ =>
    show 0 * 64 ≤ (i 1 : Nat) ∧ (i 1 : Nat) < 0 * 64 + 64
    omega

/-- So the flat array ends holding row 0 of the table at every row. -/
theorem final (c : Dev nD) : (dats m 0 c).arrAt 1 cfg0.N = rows m c :=
  (dats m 0 c).arrAt_eq_of_cover 1 (rows m c) (fun t _ => flushed_eq m c t) cover

/-- The result, a reshape of the flat array, ends holding row 0 of the table at every pair of leading coordinates. -/
theorem result_eq (c : Dev nD) : Pipeline.afterTail₀ cfgs (dats m) 0 (V0 m) [hostOps1] c main_v1
      = Cert.Rows.stacked (N := 50) (C := 64) (by decide) 16384 26 (m ((c.tc : Thread nD τ).loc main_arg1)) := by
  unfold Pipeline.afterTail₀
  simp only [hostOps1, List.flatten_cons, List.flatten_nil, List.append_nil]
  rw [StableHlo.after_cons, StableHlo.after_nil, StableHlo.reshape_result,
    Pipeline.withArrays_arr spec0 (by decide) c (V0 m c) _ 1]
  refine (congrArg (fun E => shapeCast S16384x26x64 E shapeCasts_S425984x64_S16384x26x64) (final m c)).trans ?_
  exact Cert.Rows.shapeCast_flat (by decide) 425984 16384 26 _ (by decide) _

/-- The run of the kernel, read: the result is row 0 of the table at every position, the arguments are unchanged. -/
theorem run : θ_run defs (onTc (τ := τ) (main (F := F))) ⟨m, fun _ => 0, ρ⟩ fun r => ∀ c : Dev nD,
      r.2.mem ((c.tc : Thread nD τ).loc main_v1)
        = Cert.Rows.stacked (N := 50) (C := 64) (by decide) 16384 26 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v1 (Pipeline.mem_restRefs_of main_v1 (by decide) (by decide))).trans (result_eq m c),
        ((h c).2 main_arg0 (Pipeline.mem_restRefs_of main_arg0 (by decide) (by decide))).trans (W_main_arg0 m (dats m) c),
        ((h c).1 0).trans ((dats m 0 c).arrAt_in 0 rfl _)⟩)
    (run_main m ρ)

end Cert.KernelIdeal.Rows

end
-- ==== Proof.RefValue.lean ====
/- What the reference computes: the table's row 0 at every position of the index array, whatever the indices' array
   held (the reference looks up an array of zeros of its shape). -/
module

public import proofs.«01_k».proof.Proof.Gen.Reference.Run
public import proofs.«01_k».proof.Proof.Gen.ReferenceIdeal.Run
public import proofs.«01_k».proof.Proof.Rows

@[expose] public section

noncomputable section

open Idealize.ShloMosaic Idealize.ShloMosaic.TcCoe Idealize.SL.Sem

namespace Cert.Reference.Rows

open Cert.Reference Cert.Reference.Gen

variable {F : FTy → Type} [FloatOps F]
variable (m : (ℓ : Loc nD τ sig) → Buf (Elt F) ℓ) (ρ : Dev nD → PrngReg)

/-- The run of the reference, read: the result is row 0 of the table at every position, the arguments are unchanged. -/
theorem run : θ_run defs (onTc (τ := τ) (main (F := F))) ⟨m, fun _ => 0, ρ⟩ fun r => ∀ c : Dev nD,
      r.2.mem ((c.tc : Thread nD τ).loc main_v1)
        = Cert.Rows.stacked (N := 50) (C := 64) (by decide) 16384 26 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.Reference.Value.run m ρ)
  rw [Cert.Rows.select_all]
  · rw [Cert.Rows.gather_zero (by decide)]
    · rfl
    · rfl
    · rfl
    · rfl
    · exact fun _ => rfl  -- an index is 0 wrapped, and 0 is not negative
  · rfl
  · exact fun _ => show IntOp.andi 1#1 1#1 = 1#1 by decide  -- 0 ≤ 0 and 0 ≤ 49

end Cert.Reference.Rows

namespace Cert.ReferenceIdeal.Rows

open Cert.ReferenceIdeal Cert.ReferenceIdeal.Gen

variable {F : FTy → Type} [FloatOps F]
variable (m : (ℓ : Loc nD τ sig) → Buf (Elt F) ℓ) (ρ : Dev nD → PrngReg)

/-- The same of the text that is read over the extended reals. -/
theorem run : θ_run defs (onTc (τ := τ) (main (F := F))) ⟨m, fun _ => 0, ρ⟩ fun r => ∀ c : Dev nD,
      r.2.mem ((c.tc : Thread nD τ).loc main_v1)
        = Cert.Rows.stacked (N := 50) (C := 64) (by decide) 16384 26 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.ReferenceIdeal.Value.run m ρ)
  rw [Cert.Rows.select_all]
  · rw [Cert.Rows.gather_zero (by decide)]
    · rfl
    · rfl
    · rfl
    · rfl
    · exact fun _ => rfl  -- an index is 0 wrapped, and 0 is not negative
  · rfl
  · exact fun _ => show IntOp.andi 1#1 1#1 = 1#1 by decide  -- 0 ≤ 0 and 0 ≤ 49

end Cert.ReferenceIdeal.Rows

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Reference.Run
public import proofs.«01_k».proof.Proof.Gen.ReferenceIdeal.Run
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.Reference.Gen.facts, Cert.KernelIdeal.Gen.facts, Cert.ReferenceIdeal.Gen.facts,
    fun m g _ => Cert.Kernel.Gen.frame m g,
    fun m g _ => (θ_run _ _ _).mono (fun r h => ⟨fun c => (h c).2, sem_eq_zero_of_no_sems (by decide) r.2⟩)
      (Cert.Reference.Rows.run m g),
    fun m g _ => Cert.KernelIdeal.Gen.frame m g,
    fun m g _ => (θ_run _ _ _).mono (fun r h => ⟨fun c => (h c).2, sem_eq_zero_of_no_sems (by decide) r.2⟩)
      (Cert.ReferenceIdeal.Rows.run m g),
    fun m g m' g' _ hagree => ⟨_, Cert.Kernel.Rows.run m g,
      (θ_run _ _ _).mono (fun _ h c =>
          ⟨(h c).1.trans (congrArg (Cert.Rows.stacked (N := 50) (C := 64) (by decide) 16384 26) (hagree c).2), (h c).2⟩)
        (Cert.Reference.Rows.run m' g')⟩,
    trivial,
    fun m g m' g' _ hagree => ⟨_, Cert.KernelIdeal.Rows.run m g,
      (θ_run _ _ _).mono (fun _ h c =>
          ⟨(h c).1.trans (congrArg (Cert.Rows.stacked (N := 50) (C := 64) (by decide) 16384 26) (hagree c).2), (h c).2⟩)
        (Cert.ReferenceIdeal.Rows.run m' g')⟩⟩

end Cert.Proof

end
